-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100x256x2 : Shape := ⟨3, ![100, 256, 2]⟩
abbrev S256x512 : Shape := ⟨2, ![256, 512]⟩
abbrev S2048x512 : Shape := ⟨2, ![2048, 512]⟩
abbrev S2048x2 : Shape := ⟨2, ![2048, 2]⟩
abbrev S2048x2048 : Shape := ⟨2, ![2048, 2048]⟩
abbrev S512x2048 : Shape := ⟨2, ![512, 2048]⟩
abbrev S2x2048 : Shape := ⟨2, ![2, 2048]⟩
abbrev S100x256x512 : Shape := ⟨3, ![100, 256, 512]⟩
abbrev S5x256x2 : Shape := ⟨3, ![5, 256, 2]⟩
abbrev S5x256x512 : Shape := ⟨3, ![5, 256, 512]⟩
abbrev S5x256x2048 : Shape := ⟨3, ![5, 256, 2048]⟩
abbrev S256x2048 : Shape := ⟨2, ![256, 2048]⟩
abbrev S1x256x2048 : Shape := ⟨3, ![1, 256, 2048]⟩
abbrev S1x256x512 : Shape := ⟨3, ![1, 256, 512]⟩
abbrev S1x256x2 : Shape := ⟨3, ![1, 256, 2]⟩
abbrev S256x2 : Shape := ⟨2, ![256, 2]⟩
abbrev S256x1 : Shape := ⟨2, ![256, 1]⟩
abbrev S1x2048 : Shape := ⟨2, ![1, 2048]⟩

abbrev nBuf : Space → Nat
  | .hbm => 11
  | .vmem => 10
  | .smem => 0
  | _ => 0

abbrev bufTy : (tb : Table) → Fin (tcTables nBuf tb) → BufTy
  | .hbm, ⟨0, _⟩ => ⟨S100x256x2, .f32⟩
  | .hbm, ⟨1, _⟩ => ⟨S256x512, .f32⟩
  | .hbm, ⟨2, _⟩ => ⟨S2048x512, .f32⟩
  | .hbm, ⟨3, _⟩ => ⟨S2048x2, .f32⟩
  | .hbm, ⟨4, _⟩ => ⟨S2048x2048, .f32⟩
  | .hbm, ⟨5, _⟩ => ⟨S512x2048, .f32⟩
  | .hbm, ⟨6, _⟩ => ⟨S512x2048, .f32⟩
  | .hbm, ⟨7, _⟩ => ⟨S2x2048, .f32⟩
  | .hbm, ⟨8, _⟩ => ⟨S2048x2048, .f32⟩
  | .hbm, ⟨9, _⟩ => ⟨S2048x512, .f32⟩
  | .hbm, ⟨10, _⟩ => ⟨S100x256x512, .f32⟩
  | .local _ .vmem, ⟨0, _⟩ => ⟨S5x256x2, .f32⟩
  | .local _ .vmem, ⟨1, _⟩ => ⟨S5x256x2, .f32⟩
  | .local _ .vmem, ⟨2, _⟩ => ⟨S256x512, .f32⟩
  | .local _ .vmem, ⟨3, _⟩ => ⟨S512x2048, .f32⟩
  | .local _ .vmem, ⟨4, _⟩ => ⟨S2x2048, .f32⟩
  | .local _ .vmem, ⟨5, _⟩ => ⟨S2048x2048, .f32⟩
  | .local _ .vmem, ⟨6, _⟩ => ⟨S2048x512, .f32⟩
  | .local _ .vmem, ⟨7, _⟩ => ⟨S5x256x512, .f32⟩
  | .local _ .vmem, ⟨8, _⟩ => ⟨S5x256x512, .f32⟩
  | .local _ .vmem, ⟨9, _⟩ => ⟨S5x256x2048, .f32⟩
  | _, _ => ⟨S100x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 21], ![false, false]⟩

def cc0_transform_0 (i : grid0.Coords) : Fin 3 → Nat :=
  let arg0 : BitVec 32 := BitVec.ofNat 32 (i 0).val
  let arg1 : BitVec 32 := BitVec.ofNat 32 (i 1).val
  let c19_i32 : BitVec 32 := 19#32
  let v0 : BitVec 32 := Scalar.minsi arg1 c19_i32
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

abbrev stage0_0 : Fin 2 → Memref sig .tc .vmem S5x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S5x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S100x256x2 : Shape := ⟨3, ![100, 256, 2]⟩
abbrev S256x512 : Shape := ⟨2, ![256, 512]⟩
abbrev S2048x512 : Shape := ⟨2, ![2048, 512]⟩
abbrev S2048x2 : Shape := ⟨2, ![2048, 2]⟩
abbrev S2048x2048 : Shape := ⟨2, ![2048, 2048]⟩
abbrev S512x2048 : Shape := ⟨2, ![512, 2048]⟩
abbrev S256x2048 : Shape := ⟨2, ![256, 2048]⟩
abbrev S_ : Shape := ⟨0, ![]⟩
abbrev S100x256x2048 : Shape := ⟨3, ![100, 256, 2048]⟩
abbrev S1x256x2 : Shape := ⟨3, ![1, 256, 2]⟩
abbrev S256x2 : Shape := ⟨2, ![256, 2]⟩
abbrev S2x2048 : Shape := ⟨2, ![2, 2048]⟩
abbrev S1x256x2048 : Shape := ⟨3, ![1, 256, 2048]⟩
abbrev S100x256x512 : Shape := ⟨3, ![100, 256, 512]⟩

abbrev nBuf : Space → Nat
  | .hbm => 37
  | .vmem => 0
  | .smem => 0
  | _ => 0

abbrev bufTy : (tb : Table) → Fin (tcTables nBuf tb) → BufTy
  | .hbm, ⟨0, _⟩ => ⟨S100x256x2, .f32⟩
  | .hbm, ⟨1, _⟩ => ⟨S256x512, .f32⟩
  | .hbm, ⟨2, _⟩ => ⟨S2048x512, .f32⟩
  | .hbm, ⟨3, _⟩ => ⟨S2048x2, .f32⟩
  | .hbm, ⟨4, _⟩ => ⟨S2048x2048, .f32⟩
  | .hbm, ⟨5, _⟩ => ⟨S512x2048, .f32⟩
  | .hbm, ⟨6, _⟩ => ⟨S512x2048, .f32⟩
  | .hbm, ⟨7, _⟩ => ⟨S256x2048, .f32⟩
  | .hbm, ⟨8, _⟩ => ⟨S_, .f32⟩
  | .hbm, ⟨9, _⟩ => ⟨S100x256x2048, .f32⟩
  | .hbm, ⟨10, _⟩ => ⟨S_, .i32⟩
  | .hbm, ⟨11, _⟩ => ⟨S100x256x2, .f32⟩
  | .hbm, ⟨12, _⟩ => ⟨S2048x2, .f32⟩
  | .hbm, ⟨13, _⟩ => ⟨S2048x2048, .f32⟩
  | .hbm, ⟨14, _⟩ => ⟨S_, .i32⟩
  | .hbm, ⟨15, _⟩ => ⟨S256x2048, .f32⟩
  | .hbm, ⟨16, _⟩ => ⟨S100x256x2048, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x256x2, .f32⟩
  | .hbm, ⟨22, _⟩ => ⟨S256x2, .f32⟩
  | .hbm, ⟨23, _⟩ => ⟨S2x2048, .f32⟩
  | .hbm, ⟨24, _⟩ => ⟨S256x2048, .f32⟩
  | .hbm, ⟨25, _⟩ => ⟨S2048x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S1x256x2048, .f32⟩
  | .hbm, ⟨30, _⟩ => ⟨S_, .i32⟩
  | .hbm, ⟨31, _⟩ => ⟨S_, .i32⟩
  | .hbm, ⟨32, _⟩ => ⟨S100x256x2048, .f32⟩
  | .hbm, ⟨33, _⟩ => ⟨S_, .i32⟩
  | .hbm, ⟨34, _⟩ => ⟨S_, .i32⟩
  | .hbm, ⟨35, _⟩ => ⟨S2048x512, .f32⟩
  | .hbm, ⟨36, _⟩ => ⟨S100x256x512, .f32⟩
  | _, _ => ⟨S100x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_while0c_c_5 : Ref sig .tc := ⟨.hbm, 17, rfl⟩
abbrev main_while0c_v6 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v6 : Ref sig .tc := ⟨.hbm, 22, rfl⟩
abbrev main_while0b_v7 : Ref sig .tc := ⟨.hbm, 23, rfl⟩
abbrev main_while0b_v8 : Ref sig .tc := ⟨.hbm, 24, rfl⟩
abbrev main_while0b_v9 : Ref sig .tc := ⟨.hbm, 25, rfl⟩
abbrev main_while0b_v10 : Ref sig .tc := ⟨.hbm, 26, rfl⟩
abbrev main_while0b_v11 : Ref sig .tc := ⟨.hbm, 27, rfl⟩
abbrev main_while0b_v12 : Ref sig .tc := ⟨.hbm, 28, rfl⟩
abbrev main_while0b_call1_v0 : Ref sig .tc := ⟨.hbm, 29, rfl⟩
abbrev main_while0b_call1_c : Ref sig .tc := ⟨.hbm, 30, rfl⟩
abbrev main_while0b_call1_c_0 : Ref sig .tc := ⟨.hbm, 31, rfl⟩
abbrev main_while0b_v13 : Ref sig .tc := ⟨.hbm, 32, rfl⟩
abbrev main_while0b_c_5 : Ref sig .tc := ⟨.hbm, 33, rfl⟩
abbrev main_while0b_v14 : Ref sig .tc := ⟨.hbm, 34, rfl⟩
abbrev main_v4 : Ref sig .tc := ⟨.hbm, 35, rfl⟩
abbrev main_v5 : Ref sig .tc := ⟨.hbm, 36, rfl⟩

abbrev nD : Nat := 1
abbrev τ : Topo := Topo.v7x

variable {F : FTy → Type} [FloatOps F]

abbrev main_while0_count : Scf.Loop 32 := ⟨0#32, 100#32, 1#32⟩
-- ==== Proof.Stack.lean ====
/- Stacks of matrices, arrays [G, m, n] taken as G matrices of m rows and n columns: the stack made of given matrices, and
   a stack written and read one matrix at a time. -/
module

public import Idealize.ShloMosaic.Lib.Pipeline.FrameBody
public import Idealize.ShloMosaic.Lib.Pipeline.Value
public import Idealize.ShloMosaic.Lib.StackMember

@[expose] public section

noncomputable section

namespace Cert.Elman

open Idealize.ShloMosaic Idealize.ShloMosaic.StackMember

section Stack
variable {Val : EltTy → Type} {e : EltTy} {α : Type} {n m : ℕ}

/-- The stack of `G` matrices whose member `g` is `f g`. -/
def stack {G : ℕ} (f : ℕ → (⟨2, ![m, n]⟩ : Shape).Idx → α) : (⟨3, ![G, m, n]⟩ : Shape).Idx → α :=
  fun y => f (y 0).val (fun a => y a.succ)

theorem inb_slab {G : ℕ} (k : Fin G) : ∀ a, (![k.val, 0, 0] : Fin 3 → ℕ) a + (![1, m, n] : Fin 3 → ℕ) a ≤ (![G, m, n] : Fin 3 → ℕ) a := by
  intro a
  match a with
  | 0 => exact k.isLt
  | 1 => exact (Nat.zero_add m).le
  | 2 => exact (Nat.zero_add n).le

/-- The rectangle of member `k` of a stack. -/
abbrev slab {G : ℕ} (k : Fin G) : Rect ⟨3, ![G, m, n]⟩ := Rect.unit (s := ⟨3, ![G, m, n]⟩) ![k.val, 0, 0] ![1, m, n] (inb_slab k)

/-- A member's rectangle read as a matrix is the member. -/
theorem shapeCast_ld_slab {G : ℕ} (k : Fin G) (X : (⟨3, ![G, m, n]⟩ : Shape).Idx → Val e)
    (h : (⟨3, ![1, m, n]⟩ : Shape).ShapeCasts ⟨2, ![m, n]⟩) :
    shapeCast ⟨2, ![m, n]⟩ (View.ld X (slab k)) h = memberAt X k := by
  funext j
  refine (shapeCast_dropUnit_apply ![m, n] _ h j).trans ?_
  refine congrArg X (funext fun a => Fin.ext ?_)
  match a with
  | 0 => exact Nat.add_zero _
  | 1 => show 0 + 1 * (j 0).val = (j 0).val; omega
  | 2 => show 0 + 1 * (j 1).val = (j 1).val; omega

/-- The member of `stack f`. -/
theorem memberAt_stack {G : ℕ} (f : ℕ → (⟨2, ![m, n]⟩ : Shape).Idx → α) (k : Fin G) :
    memberAt (stack (G := G) f) k = f k.val := rfl

/-- A matrix stored at member `k`'s rectangle agrees with the stack whose member `k` it is. -/
theorem shapeCast_eq_stack_slab {G : ℕ} (k : Fin G) (f : ℕ → (⟨2, ![m, n]⟩ : Shape).Idx → α)
    (h : (⟨2, ![m, n]⟩ : Shape).ShapeCasts ⟨3, ![1, m, n]⟩) (x : (⟨3, ![1, m, n]⟩ : Shape).Idx) :
    shapeCast ⟨3, ![1, m, n]⟩ (f k.val) h x = stack (G := G) f ((slab k).emb x) := by
  have h0 : (x 0).val = 0 := by have := (x 0).isLt; simp at this; omega
  refine (shapeCast_addUnit_apply ![m, n] (f k.val) h x).trans ?_
  have e0 : (((slab k).emb x) 0).val = k.val := by show k.val + 1 * (x 0).val = k.val; omega
  show _ = f (((slab k).emb x) 0).val _
  rw [e0]
  refine congrArg (f k.val) (funext fun a => Fin.ext ?_)
  match a with
  | 0 => show (x 1).val = 0 + 1 * (x 1).val; omega
  | 1 => show (x 2).val = 0 + 1 * (x 2).val; omega

end Stack

end Cert.Elman

end
-- ==== Proof.Step.lean ====
/- What one call of the kernel body computes, as functions of the blocks it reads: one Elman step, the five steps of a
   block one after another, the encoder that gives the first hidden state, and the decoder applied to one hidden state. -/
module

public import proofs.«01_k».proof.Proof.Gen.KernelIdeal
public import proofs.«01_k».proof.Proof.Stack

@[expose] public section

set_option maxRecDepth 16384

noncomputable section

namespace Cert.KernelIdeal.Elman

open Cert.Elman Cert.KernelIdeal Cert.KernelIdeal.Gen
open Idealize.ShloMosaic Idealize.ShloMosaic.StackMember

/-! ## The body's functions -/

variable {F : FTy → Type} [FloatOps F]

/-- A step's share of the velocity: the first velocity component times the first row of the input weights, plus the
    second component times the second row. -/
def drive (v : Vec F S1x256x2 .f32) (w0 w1 : Vec F S1x2048 .f32) : FVec F S256x2048 .f32 :=
  addf
    (mulf
      (broadcastTo S256x2048 (extractStridedSlice S256x1 ![0, 0] (shapeCast S256x2 v shapeCasts_S1x256x2_S256x2 : FVec F S256x2 .f32) slices_S256x2_o0_0_S256x1) broadcasts_S256x1_S256x2048 : FVec F S256x2048 .f32)
      (broadcastTo S256x2048 (shapeCast S1x2048 w0 shapeCasts_S1x2048_S1x2048) broadcasts_S1x2048_S256x2048 : FVec F S256x2048 .f32))
    (mulf
      (broadcastTo S256x2048 (extractStridedSlice S256x1 ![0, 1] (shapeCast S256x2 v shapeCasts_S1x256x2_S256x2 : FVec F S256x2 .f32) slices_S256x2_o0_1_S256x1) broadcasts_S256x1_S256x2048 : FVec F S256x2048 .f32)
      (broadcastTo S256x2048 (shapeCast S1x2048 w1 shapeCasts_S1x2048_S1x2048) broadcasts_S1x2048_S256x2048 : FVec F S256x2048 .f32))

/-- One step from hidden state `h`, of the velocities `v`, the two rows of the input weights, and the recurrent weights. -/
def step (v : Vec F S1x256x2 .f32) (w0 w1 : Vec F S1x2048 .f32) (W : Vec F S2048x2048 .f32) (h : FVec F S256x2048 .f32) :
    FVec F S256x2048 .f32 :=
  tanh (addf (drive v w0 w1)
    (matmul dot_S256x2048_S2048x2048_S256x2048_1_0_0_1_n_n none h (shapeCast S2048x2048 W shapeCasts_S2048x2048_S2048x2048 : FVec F S2048x2048 .f32) (constant S256x2048 .f32 0x00000000#32)))

/-- One step of the weights as the body reads them whole. -/
def stepW (wih : Vec F S2x2048 .f32) (whh : Vec F S2048x2048 .f32) (v : Vec F S1x256x2 .f32) (h : FVec F S256x2048 .f32) :
    FVec F S256x2048 .f32 :=
  step v (View.ld wih (Rect.unit (s := S2x2048) ![0, 0] S1x2048.size inb_S2x2048_S1x2048_0_0))
    (View.ld wih (Rect.unit (s := S2x2048) ![1, 0] S1x2048.size inb_S2x2048_S1x2048_1_0))
    (View.ld whh (Rect.unit (s := S2048x2048) ![0, 0] S2048x2048.size inb_S2048x2048_S2048x2048_0_0)) h

/-- The hidden state after `k` steps from `h`, step `k` of the velocities of row `k` of the block. -/
def advance (x : Vec F S5x256x2 .f32) (wih : Vec F S2x2048 .f32) (whh : Vec F S2048x2048 .f32) (h : FVec F S256x2048 .f32) :
    ℕ → FVec F S256x2048 .f32
  | 0 => h
  | k + 1 => stepW wih whh (View.ld x (slab (Fin.ofNat 5 k))) (advance x wih whh h k)

/-- The first hidden state: the start encoding times the encoder's weights. -/
def encode (p : Vec F S256x512 .f32) (w : Vec F S512x2048 .f32) : FVec F S256x2048 .f32 :=
  matmul dot_S256x512_S512x2048_S256x2048_1_0_0_1_n_n none
    (View.ld p (Rect.unit (s := S256x512) ![0, 0] S256x512.size inb_S256x512_S256x512_0_0))
    (shapeCast S512x2048 (View.ld w (Rect.unit (s := S512x2048) ![0, 0] S512x2048.size inb_S512x2048_S512x2048_0_0)) shapeCasts_S512x2048_S512x2048 : FVec F S512x2048 .f32)
    (constant S256x2048 .f32 0x00000000#32)

/-- The output of hidden state `h`: the hidden state times the decoder's weights. -/
def decode (w : Vec F S2048x512 .f32) (h : FVec F S256x2048 .f32) : FVec F S256x512 .f32 :=
  matmul dot_S256x2048_S2048x512_S256x512_1_0_0_1_n_n none h
    (shapeCast S2048x512 (View.ld w (Rect.unit (s := S2048x512) ![0, 0] S2048x512.size inb_S2048x512_S2048x512_0_0)) shapeCasts_S2048x512_S2048x512 : FVec F S2048x512 .f32)
    (constant S256x512 .f32 0x00000000#32)

/-- The five hidden states a block's steps leave in the scratch buffer: member `k` is the state after `k + 1` steps. -/
def states (x : Vec F S5x256x2 .f32) (wih : Vec F S2x2048 .f32) (whh : Vec F S2048x2048 .f32) (h : FVec F S256x2048 .f32) :
    Vec F S5x256x2048 .f32 :=
  stack fun k => advance x wih whh h (k + 1)

/-- The five outputs of the hidden states `X` held in the scratch buffer. -/
def outputs (w : Vec F S2048x512 .f32) (X : Vec F S5x256x2048 .f32) : Vec F S5x256x512 .f32 :=
  stack fun k => decode w (memberAt X (Fin.ofNat 5 k))

end Cert.KernelIdeal.Elman

end
-- ==== Proof.Body.lean ====
/- The triples of the kernel body: at the first grid point, where it first stores the encoded start state, and at a later
   one. Each says what the body leaves in the scratch buffer and, at a later point, in the output block. -/
module

public import proofs.«01_k».proof.Proof.Step
public import proofs.«01_k».proof.Proof.Gen.KernelIdeal.Skeleton
public import proofs.«01_k».proof.Proof.Gen.KernelIdeal.Frame

@[expose] public section

set_option maxRecDepth 16384

noncomputable section

namespace Cert.KernelIdeal.Elman

open Cert.Elman Cert.KernelIdeal Cert.KernelIdeal.Gen
open Idealize.ShloMosaic Idealize.ShloMosaic.TcCoe Idealize.ShloMosaic.Tactic Idealize.ShloMosaic.StackMember
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the body's branch, that the grid's second coordinate is 0. -/
abbrev atStart (i : grid0.Coords) : Prop := (Scalar.cmpi .ne (Scalar.extui (Scalar.cmpi .eq (BitVec.ofNat 32 (i 1).val) 0#32)) 0#32) = 1#1

/-- A store of member `k` of `stack f`, read at an index whose member is `k`, gives the stack; elsewhere what was there before. -/
theorem read_writes_slab {κ : Kind} {sp : Space} {n : ℕ} {e : EltTy} (v : View sig κ sp ⟨3, ![5, 256, n]⟩ e) (b : v.ty.Contents (Elt F))
    (f : ℕ → (⟨2, ![256, n]⟩ : Shape).Idx → Elt F e) (h : (⟨2, ![256, n]⟩ : Shape).ShapeCasts ⟨3, ![1, 256, n]⟩) (k : Fin 5)
    (L : List (View.Piece (Elt F) ⟨3, ![5, 256, n]⟩ e)) (y : (⟨3, ![5, 256, n]⟩ : Shape).Idx)
    (hL : y 0 ≠ k → v.read (Elt F) (v.writes (Elt F) b L) y = stack f y) :
    v.read (Elt F) (v.writes (Elt F) b (⟨slab k, shapeCast ⟨3, ![1, 256, n]⟩ (f k.val) h⟩ :: L)) y = stack f y := by
  by_cases hk : y 0 = k
  · have hy : ∀ a : Fin 3, (y a).val = (slab (m := 256) (n := n) k).off a + (slab (m := 256) (n := n) k).stride a
        * ((Fin.cons ⟨0, Nat.one_pos⟩ (fun a : Fin 2 => y a.succ) : (⟨3, ![1, 256, n]⟩ : Shape).Idx) a).val := by
      intro a
      match a with
      | 0 => show (y 0).val = k.val + 1 * 0; rw [hk]; omega
      | 1 => show (y 1).val = 0 + 1 * (y 1).val; omega
      | 2 => show (y 2).val = 0 + 1 * (y 2).val; omega
    have he := (slab (m := 256) (n := n) k).emb_eq_of_coords _ y hy
    rw [← he, View.read_writes_cons_emb]
    exact shapeCast_eq_stack_slab k f h _
  · rw [View.read_writes_cons_miss_of_axis v b _ L y 0 k.val 1 rfl rfl rfl (by
      have : (y 0).val ≠ k.val := fun hh => hk (Fin.ext hh)
      omega)]
    exact hL hk

/-- Member 4 read back right after the encoded start state was stored there is that state. -/
theorem encode_read {κ : Kind} {sp : Space} (v : View sig κ sp S5x256x2048 .f32) (p : Vec F S256x512 .f32) (w : Vec F S512x2048 .f32) :
    shapeCast S256x2048 (v.readCov (Val := Elt F) [⟨slab (m := 256) (n := 2048) 4, shapeCast S1x256x2048 (encode p w) shapeCasts_S256x2048_S1x256x2048⟩]
      (slab (m := 256) (n := 2048) (4 : Fin 5)).toLoadRect) shapeCasts_S1x256x2048_S256x2048 = encode p w := by
  have h : v.readCov (Val := Elt F) [⟨slab (m := 256) (n := 2048) 4, shapeCast S1x256x2048 (encode p w) shapeCasts_S256x2048_S1x256x2048⟩]
      (slab (m := 256) (n := 2048) (4 : Fin 5)).toLoadRect = shapeCast S1x256x2048 (encode p w) shapeCasts_S256x2048_S1x256x2048 :=
    funext fun x => View.read_writes_cons_emb v v.junk (slab (m := 256) (n := 2048) 4) _ [] x
  rw [h]
  exact shapeCast_shapeCast _ _ _

/-- Stores of all five members of `stack f`, member 4 last, leave `stack f`. -/
theorem read_writes_stack {κ : Kind} {sp : Space} {n : ℕ} {e : EltTy} (v : View sig κ sp ⟨3, ![5, 256, n]⟩ e) (b : v.ty.Contents (Elt F))
    (f : ℕ → (⟨2, ![256, n]⟩ : Shape).Idx → Elt F e) (h : (⟨2, ![256, n]⟩ : Shape).ShapeCasts ⟨3, ![1, 256, n]⟩)
    (L : List (View.Piece (Elt F) ⟨3, ![5, 256, n]⟩ e))
    (p0 p1 p2 p3 p4 : (⟨3, ![1, 256, n]⟩ : Shape).Idx → Elt F e)
    (h0 : p0 = shapeCast _ (f 0) h) (h1 : p1 = shapeCast _ (f 1) h) (h2 : p2 = shapeCast _ (f 2) h) (h3 : p3 = shapeCast _ (f 3) h)
    (h4 : p4 = shapeCast _ (f 4) h) :
    v.read (Elt F) (v.writes (Elt F) b (⟨slab 4, p4⟩ :: ⟨slab 3, p3⟩ :: ⟨slab 2, p2⟩ :: ⟨slab 1, p1⟩ :: ⟨slab 0, p0⟩ :: L)) = stack f := by
  subst h0 h1 h2 h3 h4
  funext y
  refine read_writes_slab v b f h 4 _ y fun n4 => read_writes_slab v b f h 3 _ y fun n3 => read_writes_slab v b f h 2 _ y fun n2 =>
    read_writes_slab v b f h 1 _ y fun n1 => read_writes_slab v b f h 0 _ y fun n0 => ?_
  have e : ∀ k : Fin 5, k ≠ 4 → k ≠ 3 → k ≠ 2 → k ≠ 1 → k ≠ 0 → False := by decide
  exact (e (y 0) n4 n3 n2 n1 n0).elim

set_option maxHeartbeats 1000000 in
/-- The body at a point after the first: it writes the outputs of the hidden states found in the scratch buffer, then
    advances the last of them over the block's five steps. -/
theorem run_later (c : Dev nD) (i : grid0.Coords) (arg2 : Memref sig .tc .vmem S5x256x2 .f32) (harg2 : arg2.IsWhole) (arg3 : Memref sig .tc .vmem S256x512 .f32) (harg3 : arg3.IsWhole) (arg4 : Memref sig .tc .vmem S512x2048 .f32) (harg4 : arg4.IsWhole) (arg5 : Memref sig .tc .vmem S2x2048 .f32) (harg5 : arg5.IsWhole) (arg6 : Memref sig .tc .vmem S2048x2048 .f32) (harg6 : arg6.IsWhole) (arg7 : Memref sig .tc .vmem S2048x512 .f32) (harg7 : arg7.IsWhole) (arg8 : Memref sig .tc .vmem S5x256x512 .f32) (harg8 : arg8.IsWhole) (arg9 : Memref sig .tc .vmem S5x256x2048 .f32) (harg9 : arg9.IsWhole) (hc0 : ¬atStart i)
    (x0 : Vec F S5x256x2 .f32) (x1 : Vec F S256x512 .f32) (x2 : Vec F S512x2048 .f32) (x3 : Vec F S2x2048 .f32) (x4 : Vec F S2048x2048 .f32) (x5 : Vec F S2048x512 .f32) (xs0 : Vec F S5x256x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outputs x5 xs0) ∗ owns (c : Thread nD τ) arg9 fullShare (states x0 x3 x4 (memberAt xs0 (4 : Fin 5)))) -∗ K ⟨⟩))
      ⊢ wp frame (wpE (defs₀ (F := F)) Variants.none c none) E (cc0_elman_rnn_fused i arg2 harg2 arg3 harg3 arg4 harg4 arg5 harg5 arg6 harg6 arg7 harg7 arg8 harg8 arg9 harg9) K := by
  simp only [cc0_elman_rnn_fused_eq_skeleton]; unfold cc0_elman_rnn_fused_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  subst hf0 hf1 hf2 hf3 hf4 hf5 hfs0
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _
    isplitr
    swap
    · iexact H6
    ipureintro
    refine (read_writes_stack (F := F) (e := .f32) _ _ (fun k => decode (arg7.view.read (Elt F) f5) (memberAt (arg9.view.read (Elt F) fs0) (Fin.ofNat 5 k)))
      shapeCasts_S256x512_S1x256x512 _ _ _ _ _ _ ?_ ?_ ?_ ?_ ?_)
    all_goals
      rw [← shapeCast_ld_slab (e := .f32) _ _ shapeCasts_S1x256x2048_S256x2048]
      rfl
  iexists _
  isplitr
  swap
  · iexact HS0
  ipureintro
  refine read_writes_stack (F := F) (e := .f32) _ _ (fun k => advance _ _ _ _ (k + 1)) shapeCasts_S256x2048_S1x256x2048 _ _ _ _ _ _ ?_ ?_ ?_ ?_ ?_
  all_goals
    rw [← shapeCast_ld_slab (e := .f32) _ _ shapeCasts_S1x256x2048_S256x2048]
    rfl

set_option maxHeartbeats 1000000 in
/-- The body at the first point, whatever the scratch buffer holds: it stores the encoded start state and advances it over
    the block's five steps. The output block is left at contents nothing is said about. -/
theorem run_first (c : Dev nD) (i : grid0.Coords) (arg2 : Memref sig .tc .vmem S5x256x2 .f32) (harg2 : arg2.IsWhole) (arg3 : Memref sig .tc .vmem S256x512 .f32) (harg3 : arg3.IsWhole) (arg4 : Memref sig .tc .vmem S512x2048 .f32) (harg4 : arg4.IsWhole) (arg5 : Memref sig .tc .vmem S2x2048 .f32) (harg5 : arg5.IsWhole) (arg6 : Memref sig .tc .vmem S2048x2048 .f32) (harg6 : arg6.IsWhole) (arg7 : Memref sig .tc .vmem S2048x512 .f32) (harg7 : arg7.IsWhole) (arg8 : Memref sig .tc .vmem S5x256x512 .f32) (harg8 : arg8.IsWhole) (arg9 : Memref sig .tc .vmem S5x256x2048 .f32) (harg9 : arg9.IsWhole) (hc0 : atStart i)
    (x0 : Vec F S5x256x2 .f32) (x1 : Vec F S256x512 .f32) (x2 : Vec F S512x2048 .f32) (x3 : Vec F S2x2048 .f32) (x4 : Vec F S2048x2048 .f32) (x5 : Vec F S2048x512 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare (states x0 x3 x4 (encode x1 x2))) -∗ K ⟨⟩))
      ⊢ wp frame (wpE (defs₀ (F := F)) Variants.none c none) E (cc0_elman_rnn_fused i arg2 harg2 arg3 harg3 arg4 harg4 arg5 harg5 arg6 harg6 arg7 harg7 arg8 harg8 arg9 harg9) K := by
  simp only [cc0_elman_rnn_fused_eq_skeleton]; unfold cc0_elman_rnn_fused_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
  subst hf0 hf1 hf2 hf3 hf4 hf5
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _, _
    isplitr
    swap
    · iexact H6
    ipureintro
    rfl
  iexists _
  isplitr
  swap
  · iexact HS0
  ipureintro
  refine read_writes_stack (F := F) (e := .f32) _ _ (fun k => advance _ _ _ _ (k + 1)) shapeCasts_S256x2048_S1x256x2048 _ _ _ _ _ _ ?_ ?_ ?_ ?_ ?_
  all_goals
    rw [← encode_read (F := F) arg9.view]
    rfl

end Cert.KernelIdeal.Elman

end
-- ==== Proof.Launch.lean ====
/- The launch of the kernel. The grid has 21 points, run in order on one core. What the kernel carries from one point to
   the next is its scratch of five hidden states; what it writes at a point is the decoding of the five states the point
   before left. At the first point there is no point before, and the block written there is whatever the scratch held:
   nothing is stated of it. It lands in the block that the second point writes again before that block goes out. -/
module

public import proofs.«01_k».proof.Proof.Body
public import Idealize.ShloMosaic.Lib.Pipeline.DatRel
public import Idealize.ShloMosaic.Lib.Pipeline.ArrRel
public import Idealize.ShloMosaic.Lib.Claim

@[expose] public section

set_option maxRecDepth 16384

noncomputable section

namespace Cert.KernelIdeal.Elman

open Cert.Elman Cert.KernelIdeal Cert.KernelIdeal.Gen
open Idealize.ShloMosaic Idealize.ShloMosaic.TcCoe Idealize.ShloMosaic.Tactic Idealize.ShloMosaic.StackMember
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the kernel carries -/

/-- Grid point number `n` (the numbers wrap around past the last one, so that the recursion below is over all of ℕ). -/
def pt (n : ℕ) : Fin cfg0.N := ⟨n % 21, lt_of_lt_of_eq (Nat.mod_lt n (by decide)) N_0.symm⟩

theorem pt_val (t : Fin cfg0.N) : pt t.val = t :=
  Fin.ext (Nat.mod_eq_of_lt (lt_of_lt_of_eq t.isLt N_0))

/-- The hidden state with which point `n` starts: at the first point the encoded initial input, later the state five
    steps after the one with which the point before started. -/
def startState (c : Dev nD) : ℕ → FVec F S256x2048 .f32
  | 0 => encode (iblk m c 1 (pt 0)) (iblk m c 2 (pt 0))
  | n + 1 => advance (iblk m c 0 (pt n)) (iblk m c 3 (pt n)) (iblk m c 4 (pt n)) (startState c n) 5

/-- The five hidden states that the scratch holds after point `n`. -/
def scratchAt (c : Dev nD) (n : ℕ) : Vec F S5x256x2048 .f32 :=
  states (iblk m c 0 (pt n)) (iblk m c 3 (pt n)) (iblk m c 4 (pt n)) (startState m c n)

/-- The last of the states that point `n` leaves is the one with which the next point starts. -/
theorem memberAt_scratchAt (c : Dev nD) (n : ℕ) :
    memberAt (scratchAt m c n) (4 : Fin 5) = startState m c (n + 1) := rfl

/-- The output block of a point after the first: the states of the point before, decoded. -/
def outAt (c : Dev nD) (t : Fin cfg0.N) : Vec F S5x256x512 .f32 :=
  outputs (iblk m c 5 t) (scratchAt m c (t.val - 1))

/-- The branch on the grid coordinate is taken at the first point only. -/
theorem atStart_iff (t : Fin cfg0.N) : atStart (grid0.coords t) ↔ t.val % 21 = 0 := by
  have ht : t.val < 21 := lt_of_lt_of_eq t.isLt N_0
  have e : (grid0.coords t 1).val = t.val / 1 % 21 := Pipeline.Grid.coords_val t 1 (by decide) rfl
  simp only [atStart, e]
  word_cmp

/-- The kernel's scratch, whole. -/
abbrev scratch : Memref sig .tc .vmem S5x256x2048 .f32 := Memref.whole cc0_scratch0

/-- What the launch hands over beside the windows: the scratch at any contents, and the generator register. -/
theorem rest_eq (c : Dev nD) :
    (Pipeline.ΦA spec0 c : sProp 𝕄)
      = iprop((∃ d, owns (c : Thread nD τ) scratch fullShare d) ∗ (∃ r, prngReg c r)) := by
  unfold Pipeline.ΦA; rw [scopedRest0_eq]; simp only [scratch, owns_whole]; try rfl

/-- What holds between points beside the windows: before the first point the scratch at any contents; after point `n`
    the scratch at the states that point leaves. -/
def between (c : Dev nD) : ℕ → sProp 𝕄
  | 0 => Pipeline.ΦA spec0 c
  | n + 1 => iprop(owns (c : Thread nD τ) scratch fullShare (scratchAt m c n) ∗ (∃ r, prngReg c r))

/-! ## The launch's data -/

/-- The data of the launch on one core: every input window's block stays as fetched, the output window's block is
    `outAt`, and between points `between` holds. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := between m c t.val
  q _ := fullShare
  owed _ := 0

theorem dat_A (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = outAt m c t := by dsimp only [dat]

theorem before_0 (c : Dev nD) (t : Fin cfg0.N) (d) : (dat m c).before 0 t d = iblk m c 0 t :=
  before0_0_of m (dat m c) (dat_A m c 0) (after_0 m c) t d
theorem before_1 (c : Dev nD) (t : Fin cfg0.N) (d) : (dat m c).before 1 t d = iblk m c 1 t :=
  before0_1_of m (dat m c) (dat_A m c 1) (after_1 m c) t d
theorem before_2 (c : Dev nD) (t : Fin cfg0.N) (d) : (dat m c).before 2 t d = iblk m c 2 t :=
  before0_2_of m (dat m c) (dat_A m c 2) (after_2 m c) t d
theorem before_3 (c : Dev nD) (t : Fin cfg0.N) (d) : (dat m c).before 3 t d = iblk m c 3 t :=
  before0_3_of m (dat m c) (dat_A m c 3) (after_3 m c) t d
theorem before_4 (c : Dev nD) (t : Fin cfg0.N) (d) : (dat m c).before 4 t d = iblk m c 4 t :=
  before0_4_of m (dat m c) (dat_A m c 4) (after_4 m c) t d
theorem before_5 (c : Dev nD) (t : Fin cfg0.N) (d) : (dat m c).before 5 t d = iblk m c 5 t :=
  before0_5_of m (dat m c) (dat_A m c 5) (after_5 m c) t d

/-- The one window whose contents are stated as a relation: the output. -/
def marked : Fin 7 → Bool := fun w => w.val == 6

/-- The relation: after a point that is not the first, the block is the one the data name. -/
def leavesRel (c : Dev nD) (w : Fin cfg0.W) (t : Fin cfg0.N)
    (X : (cfg0.win w).block.Idx → Elt F (cfg0.win w).elt) : Prop :=
  t.val ≠ 0 → X = (dat m c).after w t

/-- The launch's data with the output stated as that relation. -/
def rdat (c : Dev nD) : RDat τ (Elt F) Unit ℕ (UR sig nD τ) ℕ cfg0 c := (dat m c).toRRel marked (leavesRel m c)

/-! ## The body at a point -/

/-- The staging buffer of each window at a point. -/
abbrev st0 (t : Fin cfg0.N) : Memref sig .tc .vmem S5x256x2 .f32 := win0_0.stage (cfg0.slots t 0)
abbrev st1 (t : Fin cfg0.N) : Memref sig .tc .vmem S256x512 .f32 := win0_1.stage (cfg0.slots t 1)
abbrev st2 (t : Fin cfg0.N) : Memref sig .tc .vmem S512x2048 .f32 := win0_2.stage (cfg0.slots t 2)
abbrev st3 (t : Fin cfg0.N) : Memref sig .tc .vmem S2x2048 .f32 := win0_3.stage (cfg0.slots t 3)
abbrev st4 (t : Fin cfg0.N) : Memref sig .tc .vmem S2048x2048 .f32 := win0_4.stage (cfg0.slots t 4)
abbrev st5 (t : Fin cfg0.N) : Memref sig .tc .vmem S2048x512 .f32 := win0_5.stage (cfg0.slots t 5)
abbrev st6 (t : Fin cfg0.N) : Memref sig .tc .vmem S5x256x512 .f32 := win0_6.stage (cfg0.slots t 6)

/-- What the body is given at point `t`, window by window. -/
def bodyPre (c : Dev nD) (t : Fin cfg0.N) : sProp 𝕄 :=
  iprop((dat m c).Φ t.castSucc ∗ (dat m c).owesAt () t.castSucc
    ∗ (∃ d, owns (c : Thread nD τ) (st0 t) fullShare ((dat m c).before 0 t d))
    ∗ (∃ d, owns (c : Thread nD τ) (st1 t) fullShare ((dat m c).before 1 t d))
    ∗ (∃ d, owns (c : Thread nD τ) (st2 t) fullShare ((dat m c).before 2 t d))
    ∗ (∃ d, owns (c : Thread nD τ) (st3 t) fullShare ((dat m c).before 3 t d))
    ∗ (∃ d, owns (c : Thread nD τ) (st4 t) fullShare ((dat m c).before 4 t d))
    ∗ (∃ d, owns (c : Thread nD τ) (st5 t) fullShare ((dat m c).before 5 t d))
    ∗ (∃ Y, ⌜(rdat m c).Finds 6 t Y⌝ ∗ owns (c : Thread nD τ) (st6 t) fullShare Y))

/-- What it gives back. -/
def bodyPost (c : Dev nD) (t : Fin cfg0.N) : sProp 𝕄 :=
  iprop((dat m c).Φ t.succ ∗ (dat m c).owesAt () t.succ
    ∗ owns (c : Thread nD τ) (st0 t) fullShare ((dat m c).after 0 t)
    ∗ owns (c : Thread nD τ) (st1 t) fullShare ((dat m c).after 1 t)
    ∗ owns (c : Thread nD τ) (st2 t) fullShare ((dat m c).after 2 t)
    ∗ owns (c : Thread nD τ) (st3 t) fullShare ((dat m c).after 3 t)
    ∗ owns (c : Thread nD τ) (st4 t) fullShare ((dat m c).after 4 t)
    ∗ owns (c : Thread nD τ) (st5 t) fullShare ((dat m c).after 5 t)
    ∗ (∃ X, ⌜leavesRel m c 6 t X⌝ ∗ owns (c : Thread nD τ) (st6 t) fullShare X))

/-- The invariant before a point, by the point's number. -/
theorem dat_Φ (c : Dev nD) (t : Fin (cfg0.N + 1)) : (dat m c).Φ t = between m c t.val := by dsimp only [dat]

set_option maxHeartbeats 3200000 in
/-- At every point the body turns what it is given into what it gives back. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dat m c).owesAt () t.succ = (dat m c).owesAt () t.castSucc from rfl,
    after_0, after_1, after_2, after_3, after_4, after_5, dat_Φ, dat_Φ, Fin.val_succ, Fin.val_castSucc]
  have hN : t.val < 21 := lt_of_lt_of_eq t.isLt (show cfg0.N = 21 from N_0)
  have hafter : between m c (t.val + 1)
      = iprop(owns (c : Thread nD τ) scratch fullShare (states (iblk m c 0 t) (iblk m c 3 t) (iblk m c 4 t) (startState m c t.val)) ∗ (∃ r, prngReg c r)) := by
    rw [between, scratchAt, pt_val]
  rw [hafter]
  by_cases hz : t.val = 0
  · have hs : startState m c t.val = encode (iblk m c 1 t) (iblk m c 2 t) := by
      rw [hz, startState, show pt 0 = t by rw [← hz, pt_val]]
    rw [hs, show between m c t.val = Pipeline.ΦA spec0 c by rw [hz, between], rest_eq]
    iintro ⟨⟨HS, Hg⟩, Ho, ⟨%d0, H0⟩, ⟨%d1, H1⟩, ⟨%d2, H2⟩, ⟨%d3, H3⟩, ⟨%d4, H4⟩, ⟨%d5, H5⟩, ⟨%d6, -, H6⟩⟩
    iapply (run_first c (grid0.coords t) _ _ _ _ _ _ _ _ _ _ _ _ _ _ _ _ ((atStart_iff t).mpr (by omega)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%d, H6⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d
    isplitr
    · ipureintro; exact fun h => absurd hz h
    iexact H6
  · obtain ⟨n, hn⟩ : ∃ n, t.val = n + 1 := ⟨t.val - 1, by omega⟩
    have hs : startState m c t.val = memberAt (scratchAt m c n) (4 : Fin 5) := by
      rw [hn, memberAt_scratchAt]
    have ho : outAt m c t = outputs (iblk m c 5 t) (scratchAt m c n) := by
      rw [outAt, hn, Nat.add_sub_cancel]
    rw [hs, show between m c t.val = iprop(owns (c : Thread nD τ) scratch fullShare (scratchAt m c n) ∗ (∃ r, prngReg c r)) by rw [hn, between]]
    iintro ⟨⟨HS, Hg⟩, Ho, ⟨%d0, H0⟩, ⟨%d1, H1⟩, ⟨%d2, H2⟩, ⟨%d3, H3⟩, ⟨%d4, H4⟩, ⟨%d5, H5⟩, ⟨%d6, -, H6⟩⟩
    iapply (run_later c (grid0.coords t) _ _ _ _ _ _ _ _ _ _ _ _ _ _ _ _ (fun h => hz (by have := (atStart_iff t).mp h; omega)) (iblk m c 0 t) (iblk m c 1 t) (iblk m c 2 t) (iblk m c 3 t) (iblk m c 4 t) (iblk m c 5 t) (scratchAt m c n) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists (outAt m c t)
    isplitr
    · ipureintro; exact fun _ => (after_6 m c t).symm
    rw [ho]
    iexact H6

/-- The body as the launch calls it at a point. -/
theorem body_row (t : Fin cfg0.N) :
    defs₀ (F := F) .tc cfg0.body (cfg0.bodyArgs t (cfg0.slots t)) = bodyAt0 t := by
  unfold defs₀; rw [Defs.onTc_tc]

/-- The body's obligation at every point. -/
theorem body_ok (c : Dev nD) :
    Pipeline.BodyObligationRel (dat (F := F) m c) (defs₀ (F := F)) Variants.none () Set.univ marked (leavesRel m c) := fun t => by
  rw [bigSep_W0, bigSep_W0, body_row]
  exact triple_restated (body_at m c t) rfl .rfl fun _ => .rfl

/-- After the last point the scratch is given back, its contents forgotten. -/
theorem give_back (c : Dev nD) : (dat m c).Φ (Fin.last cfg0.N) ⊢ Pipeline.ΦA spec0 c := by
  rw [dat_Φ, Fin.val_last, show cfg0.N = 20 + 1 from N_0, between, rest_eq]
  iintro ⟨HS, Hg⟩
  isplitl [HS]
  · iexists _; iexact HS
  iexact Hg

/-! ## The run -/

theorem rdat_A (c : Dev nD) (w : Fin cfg0.W) : (rdat m c).A w = V m c (Pipeline.arrRef spec0 w) := dat_A m c w

set_option backward.isDefEq.respectTransparency.types false in
/-- From any memory with counters at zero the program ends; the pipelined arrays then hold what the launch's data allow,
    every other array is as the pipeline found it, and every counter is at zero. -/
theorem run_all : θ_run defs (onTc (τ := τ) (main (F := F))) (s₀ m ρ)
    (fun r => RDat.FramePost (cfgs 0) (rdat m) (V m) r ∧ r.2.sem = fun _ => 0) :=
  RDat.θ_run_frame_track (Q' := _) cfgs (0 : Fin 1) launch0 defs₀ Variants.none (rdat m) m ρ main
    (hbody := fun c => (body_ok m c).toRRel) (hshare := fun c => (dat m c).share_full fun _ => rfl)
    (howed := fun _ _ => rfl) (V := V m) (hmain := hmain m Variants.none) (hA := rdat_A m)
    (hin := fun c => .rfl) (hout := give_back m)

/-- The argument arrays end as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(RDat.FramePost.arr_in h.1 c 0 rfl).trans ((rdat_A m c 0).trans (V_main_arg0 m c)),
      (RDat.FramePost.arr_in h.1 c 1 rfl).trans ((rdat_A m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_all m ρ)

end Cert.KernelIdeal.Elman

end
-- ==== Proof.Array.lean ====
/- The output array after the run: its blocks are the output blocks of the points after the first, so that matrix `n` of
   the array is the decoding of the state numbered `n % 5` among those that point `n / 5` leaves. -/
module

public import proofs.«01_k».proof.Proof.Launch
public import Idealize.ShloMosaic.Lib.Pipeline.ValueKit

@[expose] public section

set_option maxRecDepth 16384

noncomputable section

namespace Cert.KernelIdeal.Elman

open Cert.Elman Cert.KernelIdeal Cert.KernelIdeal.Gen
open Idealize.ShloMosaic Idealize.ShloMosaic.TcCoe Idealize.ShloMosaic.Tactic Idealize.ShloMosaic.StackMember
open Idealize.SL Idealize.SL.RA Idealize.SL.Sem
open Idealize.ShloMosaic.Pipeline (Dat RDat)

variable {F : FTy → Type} [FloatOps F]

variable (m : (ℓ : Loc nD τ sig) → Buf (Elt F) ℓ) (ρ : Dev nD → PrngReg)

/-- The output block's place at each point: block 0 at the first point, then one block behind the point's number. -/
theorem out_index : ∀ t : Fin cfg0.N, win0_6.index t = ![t.val - 1, 0, 0] :=
  (by decide +kernel : ∀ t : Fin grid0.N, win0_6.index t = ![t.val - 1, 0, 0])

/-- The first point's output block does not go out: the next point has the same block. -/
theorem flush_pos : ∀ t : Fin cfg0.N, (cfg0.win 6).flush t = true → t.val ≠ 0 :=
  (by decide +kernel : ∀ t : Fin grid0.N, win0_6.flush t = true → t.val ≠ 0)

/-- The output array: matrix `n` decodes state `n % 5` of those that point `n / 5` leaves. -/
def outArr (c : Dev nD) : FVec F S100x256x512 .f32 :=
  stack (G := 100) fun n =>
    decode (iblk m c 5 (pt (n / 5 + 1))) (memberAt (scratchAt m c (n / 5)) (Fin.ofNat 5 (n % 5)))

/-- An output block at an index is the output array at the index's place. -/
theorem outAt_apply (c : Dev nD) (t : Fin cfg0.N) (ht : t.val ≠ 0) (y : S5x256x512.Idx) (z : S100x256x512.Idx)
    (h0 : (z 0).val = (t.val - 1) * 5 + (y 0).val) (h1 : (z 1).val = (y 1).val) (h2 : (z 2).val = (y 2).val) :
    outAt m c t y = outArr m c z := by
  have hy : (y 0).val < 5 := (y 0).isLt
  have e1 : (z 0).val / 5 = t.val - 1 := by omega
  have e2 : (z 0).val % 5 = (y 0).val := by omega
  have e3 : pt ((z 0).val / 5 + 1) = t := by rw [e1, Nat.sub_add_cancel (by omega), pt_val]
  have e : decode (iblk m c 5 t) (memberAt (scratchAt m c (t.val - 1)) (Fin.ofNat 5 (y 0).val))
      = decode (iblk m c 5 (pt ((z 0).val / 5 + 1)))
          (memberAt (scratchAt m c ((z 0).val / 5)) (Fin.ofNat 5 ((z 0).val % 5))) := by rw [e3, e1, e2]
  refine (congrFun e fun a => y a.succ).trans (congrArg (decode _ _) (funext fun a => Fin.ext ?_))
  match a with
  | 0 => exact h1.symm
  | 1 => exact h2.symm

/-- When every block that goes out is the one the launch's data name, the output array ends as `outArr`. -/
theorem array_eq (c : Dev nD) (after : (w : Fin cfg0.W) → Fin cfg0.N → (cfg0.win w).block.Idx → Elt F (cfg0.win w).elt)
    (h : ∀ t, (cfg0.win 6).flush t = true → after 6 t = outAt m c t) :
    ((rdat m c).withAfter after).arrAt 6 cfg0.N = outArr m c := by
  refine Dat.arrAt_eq_of_covers _ 6 _ (by decide +kernel) fun t hf y => ?_
  blk_simp
  rw [RDat.withAfter_after, h t hf]
  refine outAt_apply m c t (flush_pos t hf) y _ ?_ ?_ ?_
  · blk_simp [out_index]
  · blk_simp [out_index]
  · blk_simp [out_index]

/-- The program ends with `outArr` in its result, the arguments as they were. -/
theorem run_array : θ_run defs (onTc (τ := τ) (main (F := F))) ⟨m, fun _ => 0, ρ⟩ (fun r => ∀ c : Dev nD,
      r.2.mem ((c.tc : Thread nD τ).loc main_v4) = outArr m c) :=
  (θ_run defs _ _).mono (fun r h c => by
    obtain ⟨after, hL, hA⟩ := RDat.FramePost.exists_exact h.1 c
    refine (hA 6).trans (array_eq m c after fun t hf => ?_)
    exact ((dat m c).toRRel_leaves rfl (hL 6 t hf) (flush_pos t hf)).trans (after_6 m c t)) (run_all m ρ)

end Cert.KernelIdeal.Elman

end
-- ==== Proof.Blocks.lean ====
/- The input blocks in terms of the arguments: each of the four weights is read whole and is the argument transposed, the
   start encoding is read whole, and row `k` of point `n`'s velocity block is matrix `5 n + k` of the velocities. -/
module

public import proofs.«01_k».proof.Proof.Array
public import Idealize.ShloMosaic.Lib.Claim

@[expose] public section

set_option maxRecDepth 16384

noncomputable section

namespace Cert.KernelIdeal.Elman

open Cert.Elman Cert.KernelIdeal Cert.KernelIdeal.Gen
open Idealize.ShloMosaic Idealize.ShloMosaic.TcCoe Idealize.ShloMosaic.Tactic Idealize.ShloMosaic.StackMember
open Idealize.SL Idealize.SL.RA Idealize.SL.Sem

variable {F : FTy → Type} [FloatOps F]

variable (m : (ℓ : Loc nD τ sig) → Buf (Elt F) ℓ)

/-! ## Where the blocks lie -/

/-- The velocity block's place: the point's number, and at the last point the one before. -/
theorem vel_index : ∀ t : Fin cfg0.N, win0_0.index t = ![min t.val 19, 0, 0] :=
  (by decide +kernel : ∀ t : Fin grid0.N, win0_0.index t = ![min t.val 19, 0, 0])

/-- The start encoding is one block. -/
theorem start_index : ∀ t : Fin cfg0.N, win0_1.index t = ![0, 0] :=
  (by decide +kernel : ∀ t : Fin grid0.N, win0_1.index t = ![0, 0])

/-- The encoder's weights are one block. -/
theorem enc_index : ∀ t : Fin cfg0.N, win0_2.index t = ![0, 0] :=
  (by decide +kernel : ∀ t : Fin grid0.N, win0_2.index t = ![0, 0])

/-- The input weights are one block. -/
theorem inp_index : ∀ t : Fin cfg0.N, win0_3.index t = ![0, 0] :=
  (by decide +kernel : ∀ t : Fin grid0.N, win0_3.index t = ![0, 0])

/-- The recurrent weights are one block. -/
theorem rec_index : ∀ t : Fin cfg0.N, win0_4.index t = ![0, 0] :=
  (by decide +kernel : ∀ t : Fin grid0.N, win0_4.index t = ![0, 0])

/-- The decoder's weights are one block. -/
theorem dec_index : ∀ t : Fin cfg0.N, win0_5.index t = ![0, 0] :=
  (by decide +kernel : ∀ t : Fin grid0.N, win0_5.index t = ![0, 0])

/-! ## What they hold -/

/-- The start encoding's block is the argument. -/
theorem iblk_start (c : Dev nD) (t : Fin cfg0.N) : iblk m c 1 t = m ((c : Thread nD τ).loc main_arg1) := by
  refine Eq.trans ?_ (V_main_arg1 m c)
  funext y
  blk_ext [iblk, start_index]

/-- The encoder's block is the argument transposed. -/
theorem iblk_enc (c : Dev nD) (t : Fin cfg0.N) :
    iblk m c 2 t = (transpose S512x2048 [1, 0] (m ((c : Thread nD τ).loc main_arg2)) transposes_S2048x512_S512x2048_1_0 : FVec F S512x2048 .f32) := by
  have e : V m c main_v0 = (transpose S512x2048 [1, 0] (m ((c : Thread nD τ).loc main_arg2)) transposes_S2048x512_S512x2048_1_0 : FVec F S512x2048 .f32) := by
    entry_read; rfl
  refine Eq.trans ?_ e
  funext y
  blk_ext [iblk, enc_index]

/-- The input weights' block is the argument transposed. -/
theorem iblk_inp (c : Dev nD) (t : Fin cfg0.N) :
    iblk m c 3 t = (transpose S2x2048 [1, 0] (m ((c : Thread nD τ).loc main_arg3)) transposes_S2048x2_S2x2048_1_0 : FVec F S2x2048 .f32) := by
  have e : V m c main_v1 = (transpose S2x2048 [1, 0] (m ((c : Thread nD τ).loc main_arg3)) transposes_S2048x2_S2x2048_1_0 : FVec F S2x2048 .f32) := by
    entry_read; rfl
  refine Eq.trans ?_ e
  funext y
  blk_ext [iblk, inp_index]

/-- The recurrent weights' block is the argument transposed. -/
theorem iblk_rec (c : Dev nD) (t : Fin cfg0.N) :
    iblk m c 4 t = (transpose S2048x2048 [1, 0] (m ((c : Thread nD τ).loc main_arg4)) transposes_S2048x2048_S2048x2048_1_0 : FVec F S2048x2048 .f32) := by
  have e : V m c main_v2 = (transpose S2048x2048 [1, 0] (m ((c : Thread nD τ).loc main_arg4)) transposes_S2048x2048_S2048x2048_1_0 : FVec F S2048x2048 .f32) := by
    entry_read; rfl
  refine Eq.trans ?_ e
  funext y
  blk_ext [iblk, rec_index]

/-- The decoder's block is the argument transposed. -/
theorem iblk_dec (c : Dev nD) (t : Fin cfg0.N) :
    iblk m c 5 t = (transpose S2048x512 [1, 0] (m ((c : Thread nD τ).loc main_arg5)) transposes_S512x2048_S2048x512_1_0 : FVec F S2048x512 .f32) := by
  have e : V m c main_v3 = (transpose S2048x512 [1, 0] (m ((c : Thread nD τ).loc main_arg5)) transposes_S512x2048_S2048x512_1_0 : FVec F S2048x512 .f32) := by
    entry_read; rfl
  refine Eq.trans ?_ e
  funext y
  blk_ext [iblk, dec_index]

/-- The velocity block's row `k` at point `n` is matrix `5 n + k` of the argument. -/
theorem iblk_vel (c : Dev nD) (n k : ℕ) (hn : n < 20) (hk : k < 5) :
    (memberAt (iblk m c 0 (pt n)) (Fin.ofNat 5 k) : FVec F S256x2 .f32)
      = memberAt (m ((c : Thread nD τ).loc main_arg0)) (Fin.ofNat 100 (n * 5 + k)) := by
  rw [← V_main_arg0 m c]
  funext y
  show V m c main_arg0 (((cfg0.win 0).blk (pt n)).view.emb (Fin.cons (Fin.ofNat 5 k) y))
    = V m c main_arg0 (Fin.cons (Fin.ofNat 100 (n * 5 + k)) y)
  have ep : (pt n).val = n := Nat.mod_eq_of_lt (by omega)
  have e5 : (Fin.ofNat 5 k).val = k := Nat.mod_eq_of_lt hk
  have e100 : (Fin.ofNat 100 (n * 5 + k)).val = n * 5 + k := Nat.mod_eq_of_lt (by omega)
  refine congrArg (V m c main_arg0) (funext fun a => Fin.ext ?_)
  match a with
  | 0 =>
    blk_simp [vel_index]
    show min (pt n).val 19 * 5 + (Fin.ofNat 5 k).val = (Fin.ofNat 100 (n * 5 + k)).val
    rw [ep, e5, e100]
    omega
  | 1 =>
    blk_simp [vel_index]
    rfl
  | 2 =>
    blk_simp [vel_index]
    rfl

end Cert.KernelIdeal.Elman

end
-- ==== Proof.Reference.lean ====
/- The reference program as a function of its arguments: hidden state `n + 1` from hidden state `n` and row `n` of the
   velocities, a hundred times, and the decoder over the stack of the hundred states. The loop keeps its counter, the
   current hidden state, and the stack of states filled so far. -/
module

public import proofs.«01_k».proof.Proof.Stack
public import proofs.«01_k».proof.Proof.Gen.ReferenceIdeal.Run
public import Idealize.ShloMosaic.Lib.DynamicIndex
public import Idealize.ShloMosaic.Lib.Quiescent
public import Idealize.ShloMosaic.Lib.Claim

@[expose] public section

set_option maxRecDepth 16384

noncomputable section

namespace Cert.ReferenceIdeal.Elman

open Cert.Elman Cert.ReferenceIdeal Cert.ReferenceIdeal.Gen Cert.ReferenceIdeal.Value
open Idealize.ShloMosaic Idealize.ShloMosaic.TcCoe Idealize.ShloMosaic.StackMember Idealize.ShloMosaic.StableHlo
open Idealize.SL.Sem

variable {F : FTy → Type} [FloatOps F]

/-- The hidden states: first the encoded start, then each from the one before and the velocities of its row. -/
def hidden (v : FVec F S100x256x2 .f32) (p : FVec F S256x512 .f32) (we : FVec F S2048x512 .f32)
    (wi : FVec F S2048x2 .f32) (wh : FVec F S2048x2048 .f32) : ℕ → FVec F S256x2048 .f32
  | 0 => Host.dotGeneral dot_S256x512_S512x2048_S256x2048_1_0_0_1_n_n none p
      (transpose S512x2048 [1, 0] we transposes_S2048x512_S512x2048_1_0)
  | n + 1 => Host.tanh (addf
      (Host.dotGeneral dot_S256x2_S2x2048_S256x2048_1_0_0_1_n_n none (memberAt v (Fin.ofNat 100 n) : FVec F S256x2 .f32)
        (transpose S2x2048 [1, 0] wi transposes_S2048x2_S2x2048_1_0))
      (Host.dotGeneral dot_S256x2048_S2048x2048_S256x2048_1_0_0_1_n_n none (hidden v p we wi wh n)
        (transpose S2048x2048 [1, 0] wh transposes_S2048x2048_S2048x2048_1_0)))

/-- The result: the stack of hidden states 1 … 100, decoded. -/
def result (v : FVec F S100x256x2 .f32) (p : FVec F S256x512 .f32) (we : FVec F S2048x512 .f32)
    (wi : FVec F S2048x2 .f32) (wh : FVec F S2048x2048 .f32) (wd : FVec F S512x2048 .f32) : FVec F S100x256x512 .f32 :=
  Host.dotGeneral dot_S100x256x2048_S2048x512_S100x256x512_2_0_01_1_n_n none
    (stack (G := 100) (fun n => hidden v p we wi wh (n + 1)) : FVec F S100x256x2048 .f32)
    (transpose S2048x512 [1, 0] wd transposes_S512x2048_S2048x512_1_0)

/-! ## Rows read and written at the counter -/

/-- The starts of a row: the counter's value, and zero on the two other axes. -/
theorem starts_eq (k : ℕ) (hk : k < 2 ^ 31) (a : Fin 3) :
    ((![constantI S_ 32 (BitVec.ofNat 32 k), constantI S_ 32 0#32, constantI S_ 32 0#32] : Fin 3 → IVec S_ 32) a (Shape.Idx.first h_S_)).toInt
      = ((![k, 0, 0] : Fin 3 → ℕ) a : Int) := by
  match a with
  | 0 => exact toInt_ofNat_of_lt hk
  | 1 => rfl
  | 2 => rfl

/-- A row read at counter `k` and laid out as a matrix is member `k` of the stack. -/
theorem row_read (v : FVec F S100x256x2 .f32) (k : ℕ) (hk : k < 100) :
    shapeCast S256x2 (Host.dynamicSlice S1x256x2 v
        (fun a => ((![constantI S_ 32 (BitVec.ofNat 32 k), constantI S_ 32 0#32, constantI S_ 32 0#32] : Fin 3 → IVec S_ 32) a (Shape.Idx.first h_S_)).toInt)
        sliceFits_S100x256x2_S1x256x2) shapeCasts_S1x256x2_S256x2
      = memberAt v (Fin.ofNat 100 k) := by
  have hs : S100x256x2.Slices ![k, 0, 0] S1x256x2 := by
    refine ⟨rfl, fun a => ?_⟩
    match a with
    | 0 => exact hk
    | 1 => exact Nat.le_refl 256
    | 2 => exact Nat.le_refl 2
  rw [Host.dynamicSlice_eq_extractStridedSlice S1x256x2 v _ ![k, 0, 0] sliceFits_S100x256x2_S1x256x2 hs
    (starts_eq k (by omega))]
  funext j
  refine (shapeCast_dropUnit_apply ![256, 2] _ _ j).trans ?_
  refine congrArg v (funext fun a => Fin.ext ?_)
  match a with
  | 0 => exact (Nat.mod_eq_of_lt hk).symm
  | 1 => exact Nat.zero_add _
  | 2 => exact Nat.zero_add _

/-- A matrix written at counter `k` is member `k` of the stack after; the other members stay. -/
theorem row_write (X : FVec F S100x256x2048 .f32) (h : FVec F S256x2048 .f32) (k : ℕ) (hk : k < 100) (g : Fin 100) :
    memberAt (Host.dynamicUpdateSlice X (broadcastInDim S1x256x2048 ![1, 2] bcast_S256x2048_S1x256x2048_1_2 h)
        (fun a => ((![constantI S_ 32 (BitVec.ofNat 32 k), constantI S_ 32 0#32, constantI S_ 32 0#32] : Fin 3 → IVec S_ 32) a (Shape.Idx.first h_S_)).toInt)
        updateFits_S100x256x2048_S1x256x2048) g
      = if g.val = k then h else memberAt X g := by
  have hs : S100x256x2048.Slices ![k, 0, 0] S1x256x2048 := by
    refine ⟨rfl, fun a => ?_⟩
    match a with
    | 0 => exact hk
    | 1 => exact Nat.le_refl 256
    | 2 => exact Nat.le_refl 2048
  rw [Host.dynamicUpdateSlice_eq_updateSlice X _ _ updateFits_S100x256x2048_S1x256x2048 ![k, 0, 0]
    (fun a => by have := hs.2 a; rw [starts_eq k (by omega)]; omega) hs]
  funext j
  rw [memberAt_apply]
  unfold updateSlice
  by_cases hg : g.val = k
  · rw [if_pos hg, dif_pos]
    · refine congrArg h (funext fun a => Fin.ext ?_)
      match a with
      | 0 => rfl
      | 1 => rfl
    · intro a
      match a with
      | 0 => exact ⟨hg.ge, by show g.val < k + 1; omega⟩
      | 1 => exact ⟨Nat.zero_le _, (j 0).isLt.trans_eq (Nat.zero_add 256).symm⟩
      | 2 => exact ⟨Nat.zero_le _, (j 1).isLt.trans_eq (Nat.zero_add 2048).symm⟩
  · rw [if_neg hg, dif_neg]
    · rfl
    · intro hall
      have h0 := hall 0
      have h1 : k ≤ g.val := h0.1
      have h2 : g.val < k + 1 := h0.2
      omega

/-! ## The loop -/

variable (m : (ℓ : Loc nD τ sig) → Buf (Elt F) ℓ) (ρ : Dev nD → PrngReg)

/-- The hidden states of the arguments on core `c`. -/
abbrev hid (c : Dev nD) : ℕ → FVec F S256x2048 .f32 :=
  hidden (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- What the loop keeps after `k` trips: the arguments, the counter at `k`, hidden state `k`, and the stack filled below `k`. -/
structure Kept (c : Dev nD) (k : ℕ) (X : Valuation τ sig (Elt F)) : Prop where
  vel : X (Proc.devRef .tc main_v3_0) = m ((c.tc : Thread nD τ).loc main_arg0)
  win : X (Proc.devRef .tc main_v3_1) = m ((c.tc : Thread nD τ).loc main_arg3)
  wrec : X (Proc.devRef .tc main_v3_2) = m ((c.tc : Thread nD τ).loc main_arg4)
  ctr : X (Proc.devRef .tc main_v3_3) = constantI S_ 32 (BitVec.ofNat 32 k)
  cur : X (Proc.devRef .tc main_v3_4) = hid m c k
  filled : ∀ g : Fin 100, g.val < k →
    memberAt (X (Proc.devRef .tc main_v3_5) : FVec F S100x256x2048 .f32) g = hid m c (g.val + 1)

/-- At the loop's entry. -/
theorem kept_zero (c : Dev nD) : Kept m c 0 (entryContents preI m c) where
  vel := by simp only [entryContents, afterL_cons, afterL_nil]; after_reads_simp; rfl
  win := by simp only [entryContents, afterL_cons, afterL_nil]; after_reads_simp; rfl
  wrec := by simp only [entryContents, afterL_cons, afterL_nil]; after_reads_simp; rfl
  ctr := ctr_entry m c
  cur := by simp only [entryContents, afterL_cons, afterL_nil]; after_reads_simp; rfl
  filled := fun _ h => absurd h (Nat.not_lt_zero _)

/-- One trip's hidden state. -/
theorem trip_state (c : Dev nD) (k : ℕ) (hk : k < 100) (X : Valuation τ sig (Elt F)) (h : Kept m c k X) :
    res_main_while0b_v12 X = hid m c (k + 1) := by
  unfold res_main_while0b_v12
  rw [h.vel, h.win, h.wrec, h.ctr, h.cur]
  exact congrArg (fun x : FVec F S256x2 .f32 => Host.tanh (addf
    (Host.dotGeneral dot_S256x2_S2x2048_S256x2048_1_0_0_1_n_n none x
      (transpose S2x2048 [1, 0] (m ((c.tc : Thread nD τ).loc main_arg3)) transposes_S2048x2_S2x2048_1_0))
    (Host.dotGeneral dot_S256x2048_S2048x2048_S256x2048_1_0_0_1_n_n none (hid m c k)
      (transpose S2048x2048 [1, 0] (m ((c.tc : Thread nD τ).loc main_arg4)) transposes_S2048x2048_S2048x2048_1_0))))
    (row_read (m ((c.tc : Thread nD τ).loc main_arg0)) k hk)

/-- One trip keeps it. -/
theorem kept_succ (c : Dev nD) (k : ℕ) (hk : k < 100) (X : Valuation τ sig (Elt F)) (h : Kept m c k X) :
    Kept m c (k + 1) (STEP X) where
  vel := (STEP_main_v3_0 X).trans h.vel
  win := (STEP_main_v3_1 X).trans h.win
  wrec := (STEP_main_v3_2 X).trans h.wrec
  ctr := by
    rw [STEP_main_v3_3, step_main_v3_3, h.ctr]
    funext j
    show BitVec.ofNat 32 k + 1#32 = BitVec.ofNat 32 (k + 1)
    rw [BitVec.ofNat_add]
  cur := by
    rw [STEP_main_v3_4, step_main_v3_4, trip_state m c k hk X h]
    rfl
  filled := fun g hg => by
    rw [STEP_main_v3_5, step_main_v3_5, trip_state m c k hk X h, h.ctr]
    refine (row_write _ _ k hk g).trans ?_
    by_cases e : g.val = k
    · rw [if_pos e, e]
    · rw [if_neg e]
      exact h.filled g (by omega)

/-- After any number of trips up to a hundred. -/
theorem kept (c : Dev nD) : ∀ k, k ≤ 100 → Kept m c k (STEP^[k] (entryContents preI m c))
  | 0, _ => kept_zero m c
  | k + 1, hk => by
    rw [Function.iterate_succ_apply']
    exact kept_succ m c k hk _ (kept c k (by omega))

/-- The result buffer's contents. -/
theorem out_eq (c : Dev nD) : out_main_v5 (STEP^[100] (entryContents preI m c))
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold out_main_v5 result
  rw [iter_main_arg5 m c 100]
  refine congrArg (fun X => Host.dotGeneral dot_S100x256x2048_S2048x512_S100x256x512_2_0_01_1_n_n none X _) ?_
  exact ext_memberAt fun g => (kept m c 100 le_rfl).filled g g.isLt

/-! ## The run -/

/-- The reference program ends with `result` of its arguments, the arguments as they were, and every counter at zero (it
    has no counters). -/
theorem run_result : θ_run (defs (F := F)) (onTc (τ := τ) (main (F := F))) ⟨m, fun _ => 0, ρ⟩ fun r => (∀ c : Dev nD,
      r.2.mem ((c.tc : Thread nD τ).loc main_v5)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => ⟨(h c).1.trans (out_eq m c), (h c).2⟩, sem_eq_zero_of_no_sems (by decide) r.2⟩)
    (run m ρ)

end Cert.ReferenceIdeal.Elman

end
-- ==== Proof.Equation.lean ====
/- The equation of the two programs over the extended reals: the kernel's output array is the reference's result on the same
   arguments. A kernel step is a reference step (the two products with the velocity's components are the sum over the two
   components), so the kernel's states are the reference's, and each output matrix is the decoder applied to one of them. -/
module

public import proofs.«01_k».proof.Proof.Blocks
public import proofs.«01_k».proof.Proof.Reference

@[expose] public section

set_option maxRecDepth 16384

noncomputable section

namespace Cert.Elman

open Cert.KernelIdeal Cert.KernelIdeal.Gen Cert.KernelIdeal.Elman
open Idealize.ShloMosaic Idealize.ShloMosaic.TcCoe Idealize.ShloMosaic.StackMember
open Cert.ReferenceIdeal.Elman (hidden result)

/-! ## Products -/

/-- A stack of matrices times one matrix is, for each member, the member times the matrix. -/
theorem memberAt_dotGeneral_right {G m k n : ℕ} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂) (g : Fin G) :
    memberAt (d := ![m, n]) (Host.dotGeneral (⟨[2], [0], [0, 1], [1], [], [], w⟩ : DotDims _ _ _) prec A B) g
      = Host.dotGeneral (DotDims.plain m k n) prec (memberAt (d := ![m, k]) A g) B := by
  funext i
  obtain ⟨a, b, rfl⟩ : ∃ (a : Fin m) (b : Fin n), i = ValueIdx.ix2 a b := ⟨i 0, i 1, ValueIdx.eq_ix2 i⟩
  rw [memberAt_apply, cons_ix2, dotGeneral_plain_apply]
  show FloatOps.dotGeneral _ prec _ A B (ValueIdx.ix3 g a b) = _
  rw [Ideal.dotGeneral_apply,
    ← Equiv.sum_comp (ValueIdx.contrEquiv1 (⟨[2], [0], [0, 1], [1], [], [], w⟩ : DotDims _ _ _) k rfl rfl).symm]
  refine Finset.sum_congr rfl fun c _ => ?_
  have hc := ValueIdx.contrEquiv1_symm_val
    (⟨[2], [0], [0, 1], [1], [], [], w⟩ : DotDims ⟨3, ![G, m, k]⟩ ⟨2, ![k, n]⟩ ⟨3, ![G, m, n]⟩) k rfl rfl c
  rw [memberAt_apply, cons_ix2]
  refine congrArg₂ (· * ·) (congrArg A (funext fun ax => Fin.ext ?_)) (congrArg B (funext fun ax => Fin.ext ?_))
  · match ax with
    | 0 => simp [DotDims.lhsIdx]; rfl
    | 1 => simp [DotDims.lhsIdx]; rfl
    | 2 => simp [DotDims.lhsIdx]; exact hc
  · match ax with
    | 0 => simp [DotDims.rhsIdx]; exact hc
    | 1 => simp [DotDims.rhsIdx]; rfl

/-! ## The kernel's functions are the reference's operations -/

/-- A column of the velocities copied along the lanes, read at an index, is the column's entry of the index's row. -/
theorem column_apply (q : Fin 2) (y : FVec Ideal S256x2 .f32) (hs : S256x2.Slices ![0, q.val] S256x1)
    (hb : S256x1.Broadcasts S256x2048) (a : Fin 256) (b : Fin 2048) :
    broadcastTo S256x2048 (extractStridedSlice S256x1 ![0, q.val] y hs) hb (ValueIdx.ix2 a b) = y (ValueIdx.ix2 a q) := by
  refine (broadcastTo_apply _ hb _ (ValueIdx.ix2 a (0 : Fin 1)) fun c => ?_).trans
    (extractStridedSlice_apply _ y hs _ (ValueIdx.ix2 a q) fun c => ?_)
  · match c with
    | 0 => rfl
    | 1 => rfl
  · match c with
    | 0 => exact (Nat.zero_add _).symm
    | 1 => exact (Nat.add_zero _).symm

/-- A row of the input weights copied down the rows, read at an index, is the row's entry of the index's column. -/
theorem row_apply (q : Fin 2) (w : FVec Ideal S2x2048 .f32)
    (hi : ∀ a, (![q.val, 0] : Fin 2 → ℕ) a + S1x2048.size a ≤ S2x2048.size a) (hb : S1x2048.Broadcasts S256x2048)
    (a : Fin 256) (b : Fin 2048) :
    broadcastTo S256x2048 (View.ld (Val := Elt Ideal) (e' := .f32) w (Rect.unit (s := S2x2048) ![q.val, 0] S1x2048.size hi)) hb
      (ValueIdx.ix2 a b) = w (ValueIdx.ix2 q b) := by
  rw [View.ld_unit]
  refine (broadcastTo_apply _ hb _ (ValueIdx.ix2 (0 : Fin 1) b) fun c => ?_).trans
    (extractStridedSlice_apply _ w _ _ (ValueIdx.ix2 q b) fun c => ?_)
  · match c with
    | 0 => rfl
    | 1 => rfl
  · match c with
    | 0 => exact (Nat.add_zero _).symm
    | 1 => exact (Nat.zero_add _).symm

/-- The kernel's share of the velocity is the product of the velocities with the input weights: a sum of two terms. -/
theorem drive_eq (x : FVec Ideal S5x256x2 .f32) (k : Fin 5) (w : FVec Ideal S2x2048 .f32) :
    drive (F := Ideal) (View.ld x (slab k)) (View.ld w (Rect.unit (s := S2x2048) ![0, 0] S1x2048.size inb_S2x2048_S1x2048_0_0))
        (View.ld w (Rect.unit (s := S2x2048) ![1, 0] S1x2048.size inb_S2x2048_S1x2048_1_0))
      = Host.dotGeneral (DotDims.plain 256 2 2048) none (memberAt x k) w := by
  unfold drive
  rw [shapeCast_ld_slab (Val := Elt Ideal) (e := .f32) k x, shapeCast_self, shapeCast_self]
  funext i
  obtain ⟨a, b, rfl⟩ : ∃ (a : Fin 256) (b : Fin 2048), i = ValueIdx.ix2 a b := ⟨i 0, i 1, ValueIdx.eq_ix2 i⟩
  rw [dotGeneral_plain_apply, Fin.sum_univ_two]
  exact congrArg₂ (· + ·)
    (congrArg₂ (· * ·) (column_apply 0 _ _ _ a b) (row_apply 0 _ _ _ a b))
    (congrArg₂ (· * ·) (column_apply 1 _ _ _ a b) (row_apply 1 _ _ _ a b))

/-- A kernel step is a reference step. -/
theorem stepW_eq (x : FVec Ideal S5x256x2 .f32) (k : Fin 5) (wi : FVec Ideal S2x2048 .f32) (wh : FVec Ideal S2048x2048 .f32)
    (h : FVec Ideal S256x2048 .f32) :
    stepW (F := Ideal) wi wh (View.ld x (slab k)) h
      = Host.tanh (addf (Host.dotGeneral (φ₁ := .f32) (φ₂ := .f32) (DotDims.plain 256 2 2048) none (memberAt x k) wi)
          (Host.dotGeneral (φ₁ := .f32) (φ₂ := .f32) (DotDims.plain 256 2048 2048) none h wh)) := by
  unfold stepW step
  rw [drive_eq, matmul_zero_eq_dotGeneral, shapeCast_self, View.ld_unit_zero (by decide)]
  rfl

/-- The kernel's encoder is the product of its two operands. -/
theorem encode_eq (p : FVec Ideal S256x512 .f32) (w : FVec Ideal S512x2048 .f32) :
    encode (F := Ideal) p w = Host.dotGeneral (φ₁ := .f32) (φ₂ := .f32) (DotDims.plain 256 512 2048) none p w := by
  unfold encode
  rw [matmul_zero_eq_dotGeneral, View.ld_unit_zero (by decide), View.ld_unit_zero (by decide)]
  exact congrArg (Host.dotGeneral (φ₁ := .f32) (φ₂ := .f32) (DotDims.plain 256 512 2048) none p) (shapeCast_self w _)

/-- The kernel's decoder is the product of the state with the weights. -/
theorem decode_eq (w : FVec Ideal S2048x512 .f32) (h : FVec Ideal S256x2048 .f32) :
    decode (F := Ideal) w h = Host.dotGeneral (φ₁ := .f32) (φ₂ := .f32) (DotDims.plain 256 2048 512) none h w := by
  unfold decode
  rw [matmul_zero_eq_dotGeneral, View.ld_unit_zero (by decide)]
  exact congrArg (Host.dotGeneral (φ₁ := .f32) (φ₂ := .f32) (DotDims.plain 256 2048 512) none h) (shapeCast_self w _)

/-! ## The states and the result -/

variable (m : (ℓ : Loc nD τ sig) → Buf (Elt Ideal) ℓ)

/-- The reference's hidden states on the kernel's arguments. -/
abbrev refState (c : Dev nD) : ℕ → FVec Ideal S256x2048 .f32 :=
  hidden (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- From state `5 n`, `k` steps of point `n` lead to state `5 n + k`. -/
theorem advance_eq (c : Dev nD) (n : ℕ) (hn : n < 20) : ∀ k, k ≤ 5 →
    advance (F := Ideal) (iblk m c 0 (pt n)) (iblk m c 3 (pt n)) (iblk m c 4 (pt n)) (refState m c (n * 5)) k
      = refState m c (n * 5 + k)
  | 0, _ => rfl
  | k + 1, hk => by
    unfold advance
    rw [advance_eq c n hn k (by omega), stepW_eq, iblk_vel m c n k hn (by omega), iblk_inp, iblk_rec]
    rfl

/-- Point `n` starts from the reference's state `5 n`. -/
theorem startState_eq (c : Dev nD) : ∀ n, n ≤ 20 → startState m c n = refState m c (n * 5)
  | 0, _ => by
    unfold startState
    rw [encode_eq, iblk_start, iblk_enc]
    rfl
  | n + 1, hn => by
    unfold startState
    rw [startState_eq c n (by omega), advance_eq m c n (by omega) 5 le_rfl, Nat.succ_mul]

/-- State `n % 5` of those that point `n / 5` leaves is the reference's state `n + 1`. -/
theorem scratchAt_eq (c : Dev nD) (n : ℕ) (hn : n < 100) :
    (memberAt (scratchAt m c (n / 5)) (Fin.ofNat 5 (n % 5)) : FVec Ideal S256x2048 .f32) = refState m c (n + 1) := by
  have e5 : (Fin.ofNat 5 (n % 5)).val = n % 5 := Nat.mod_eq_of_lt (Nat.mod_lt _ (by decide))
  unfold scratchAt states
  rw [memberAt_stack, startState_eq m c _ (by omega), e5, advance_eq m c _ (by omega) _ (by omega)]
  exact congrArg (refState m c) (by omega)

/-- The decoder's weights as the reference lays them out. -/
abbrev decW (c : Dev nD) : FVec Ideal S2048x512 .f32 :=
  transpose S2048x512 [1, 0] (m ((c : Thread nD τ).loc main_arg5)) transposes_S512x2048_S2048x512_1_0

/-- Matrix `n` of the output array is the reference's state `n + 1`, decoded. -/
theorem member_eq (c : Dev nD) (n : ℕ) (hn : n < 100) :
    decode (F := Ideal) (iblk m c 5 (pt (n / 5 + 1))) (memberAt (scratchAt m c (n / 5)) (Fin.ofNat 5 (n % 5)))
      = Host.dotGeneral (φ₁ := .f32) (φ₂ := .f32) (DotDims.plain 256 2048 512) none (refState m c (n + 1)) (decW m c) := by
  rw [scratchAt_eq m c n hn, iblk_dec, decode_eq]

/-- Matrix `g` of the reference's result is its state `g + 1`, decoded. -/
theorem result_member (c : Dev nD) (g : Fin 100) :
    (memberAt (d := ![256, 512]) (result (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5))) g : FVec Ideal S256x512 .f32)
      = Host.dotGeneral (φ₁ := .f32) (φ₂ := .f32) (DotDims.plain 256 2048 512) none (refState m c (g.val + 1)) (decW m c) :=
  memberAt_dotGeneral_right (G := 100) (m := 256) (k := 2048) (n := 512) _ none
    (stack (G := 100) fun n => refState m c (n + 1)) (decW m c) g

/-- The kernel's output array is the reference's result on the kernel's arguments. -/
theorem outArr_eq (c : Dev nD) :
    outArr m c = result (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) :=
  ext_memberAt (G := 100) (d := ![256, 512]) fun g => (member_eq m c g.val g.isLt).trans (result_member m c g).symm

end Cert.Elman

end
-- ==== Proof.lean ====
/- The certificate: the kernel's two programs and the reference run to their ends without fault, with the arguments as
   they were and every counter at zero, and over the extended reals the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.Tactic Idealize.SL.Sem Cert.Kernel

/-- The kernel and its idealization have the same functions at the real floats: the two texts are one. -/
theorem same_defs : Cert.Kernel.defs (F := Bits) = Cert.KernelIdeal.defs (F := Bits) := by sl_kernel_rfl

/-- And the same main program. -/
theorem same_main : Cert.Kernel.main (F := Bits) = Cert.KernelIdeal.main (F := Bits) := rfl

/-- The kernel at the real floats runs, leaves its arguments as they were, and ends with every counter at zero. -/
theorem kernel_frame : quiescent_Kernel (hKernel := Cert.Kernel.Gen.facts) := fun m g _ => by
  rw [same_defs, same_main]
  exact Cert.KernelIdeal.Elman.frame (F := Bits) m g

/-- Over the extended reals the kernel's result is the reference's, on memories that agree on the arguments. -/
theorem equation : algebraic_KernelIdeal_ReferenceIdeal (hKernelIdeal := Cert.KernelIdeal.Gen.facts)
    (hReferenceIdeal := Cert.ReferenceIdeal.Gen.facts) := fun m g m' g' _ hagree =>
  ⟨fun c => Cert.KernelIdeal.Elman.outArr m c,
    (θ_run Cert.KernelIdeal.defs _ _).mono (fun _ h c => ⟨h.1 c, h.2.1 c⟩)
      (θ_run_and (Cert.KernelIdeal.Elman.run_array m g) (Cert.KernelIdeal.Elman.frame m g)),
    (θ_run Cert.ReferenceIdeal.defs _ _).mono (fun _ h c => ⟨by
        obtain ⟨h0, h1, h2, h3, h4, h5⟩ := hagree c
        refine (h.1 c).1.trans (Eq.trans ?_ (Cert.Elman.outArr_eq m c).symm)
        rw [h0, h1, h2, h3, h4, h5], (h.1 c).2⟩)
      (Cert.ReferenceIdeal.Elman.run_result m' g')⟩

/-- All five claims. -/
theorem claim : Cert.Claim := ⟨Cert.Kernel.Gen.facts, Cert.KernelIdeal.Gen.facts, Cert.ReferenceIdeal.Gen.facts,
  kernel_frame, fun m g _ => Cert.KernelIdeal.Elman.frame m g,
  fun m g _ => (θ_run Cert.ReferenceIdeal.defs _ _).mono (fun _ h => ⟨fun c => (h.1 c).2, h.2⟩)
    (Cert.ReferenceIdeal.Elman.run_result m g),
  trivial, equation⟩

end Cert.Proof

end
